-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S3 : Shape := ⟨1, ![3]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S1024x256, .bf16⟩
  | .local _ .vmem, ⟨0, _⟩ => ⟨S256x256, .bf16⟩
  | .local _ .vmem, ⟨1, _⟩ => ⟨S1024x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v61 : BitVec 32 := Scalar.muli v8 c256_i32
  let v64 : Index := Scalar.indexCast v61
  let c0_38 : Index := 0#32
  ![v64.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v61 : BitVec 32 := Scalar.muli v8 c256_i32
  let c0_i32_52 : BitVec 32 := 0#32
  ![v61.toNat, 0]
def k0_dev4 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v77 : BitVec 32 := Scalar.muli v2 c8_i32_48
  let v78 : BitVec 32 := Scalar.addi c0_i32_49 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v79 : BitVec 32 := Scalar.muli v5 c4_i32_50
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v66 : BitVec 32 := Scalar.addi v8 c1_i32_39
  let c4_i32_40 : BitVec 32 := 4#32
  let c0_i32_41 : BitVec 32 := 0#32
  let v67 : BitVec 1 := Scalar.cmpi .eq c4_i32_40 c0_i32_41
  let c1_i32_42 : BitVec 32 := 1#32
  let v68 : BitVec 32 := Scalar.select v67 c1_i32_42 c4_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_51 : BitVec 32 := 1#32
  let v81 : BitVec 32 := Scalar.muli v76 c1_i32_51
  let v82 : BitVec 32 := Scalar.addi v80 v81
  v82.toNat
def k0_dev5 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v100 : BitVec 32 := Scalar.muli v2 c8_i32_63
  let v101 : BitVec 32 := Scalar.addi c0_i32_64 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v102 : BitVec 32 := Scalar.muli v5 c4_i32_65
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_54 : BitVec 32 := 2#32
  let v89 : BitVec 32 := Scalar.addi v8 c2_i32_54
  let c4_i32_55 : BitVec 32 := 4#32
  let c0_i32_56 : BitVec 32 := 0#32
  let v90 : BitVec 1 := Scalar.cmpi .eq c4_i32_55 c0_i32_56
  let c1_i32_57 : BitVec 32 := 1#32
  let v91 : BitVec 32 := Scalar.select v90 c1_i32_57 c4_i32_55
  let v92 : BitVec 32 := Scalar.remsi v89 v91
  let c0_i32_59 : BitVec 32 := 0#32
  let v94 : BitVec 1 := Scalar.cmpi .slt v92 c0_i32_59
  let c0_i32_60 : BitVec 32 := 0#32
  let v95 : BitVec 1 := Scalar.cmpi .slt v91 c0_i32_60
  let v96 : BitVec 1 := Scalar.xori v94 v95
  let c0_i32_58 : BitVec 32 := 0#32
  let v93 : BitVec 1 := Scalar.cmpi .ne v92 c0_i32_58
  let v97 : BitVec 1 := Scalar.andi v96 v93
  let v98 : BitVec 32 := Scalar.addi v92 v91
  let v99 : BitVec 32 := Scalar.select v97 v98 v92
  let c1_i32_66 : BitVec 32 := 1#32
  let v104 : BitVec 32 := Scalar.muli v99 c1_i32_66
  let v105 : BitVec 32 := Scalar.addi v103 v104
  v105.toNat
def k0_dev6 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v123 : BitVec 32 := Scalar.muli v2 c8_i32_78
  let v124 : BitVec 32 := Scalar.addi c0_i32_79 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v125 : BitVec 32 := Scalar.muli v5 c4_i32_80
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v112 : BitVec 32 := Scalar.addi v8 c3_i32_69
  let c4_i32_70 : BitVec 32 := 4#32
  let c0_i32_71 : BitVec 32 := 0#32
  let v113 : BitVec 1 := Scalar.cmpi .eq c4_i32_70 c0_i32_71
  let c1_i32_72 : BitVec 32 := 1#32
  let v114 : BitVec 32 := Scalar.select v113 c1_i32_72 c4_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_81 : BitVec 32 := 1#32
  let v127 : BitVec 32 := Scalar.muli v122 c1_i32_81
  let v128 : BitVec 32 := Scalar.addi v126 v127
  v128.toNat
def k0_off3 (d0 : Dev nD) (c1_i32_84 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v135 : BitVec 32 := Scalar.addi v8 c1_i32_84
  let c4_i32_85 : BitVec 32 := 4#32
  let c0_i32_86 : BitVec 32 := 0#32
  let v136 : BitVec 1 := Scalar.cmpi .eq c4_i32_85 c0_i32_86
  let c1_i32_87 : BitVec 32 := 1#32
  let v137 : BitVec 32 := Scalar.select v136 c1_i32_87 c4_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c256_i32_91 : BitVec 32 := 256#32
  let v146 : BitVec 32 := Scalar.muli v145 c256_i32_91
  let c0_i32_98 : BitVec 32 := 0#32
  ![v146.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh and the blocks

Sixteen devices in a mesh x = 2, y = 2, z = 4; device `c` sits at z-coordinate `c % 4`, and the four devices that
share x and y (`c / 4`) form one group. Inside a group every device sends its block of the argument to the three
others. This file names the peers of a device, shows that the device numbers the kernel computes are these peers,
and cuts the 1024 × 256 result buffer into the four row blocks the devices of a group fill.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe

variable {F : FTy → Type} [FloatOps F]

/-! ## Peers -/

set_option backward.proofsInPublic true in
/-- The device of `c`'s group that lies `j` steps further along z, going round. -/
def ahead (c : Dev nD) (j : Fin 4) : Dev nD :=
  ⟨4 * (c.val / 4) + (c.val % 4 + j.val) % 4, by have h : c.val < 16 := c.isLt; show _ < 16; omega⟩

/-- The `k`-th peer of a device: the one `k + 1` steps ahead. -/
def peer (c : Dev nD) (k : Fin 3) : Dev nD := ahead c k.succ

/-- Zero steps ahead is the device itself. -/
theorem ahead_zero (c : Dev nD) : ahead c 0 = c := by revert c; decide

/-- A peer's peer at the opposite distance is the device itself. -/
theorem peer_peer (c : Dev nD) (k : Fin 3) : peer (peer c k) k.rev = c := by revert c k; decide

/-- The same, starting at the opposite distance. -/
theorem peer_peer' (c : Dev nD) (k : Fin 3) : peer (peer c k.rev) k = c := by revert c k; decide

/-- A device is none of its own peers. -/
theorem peer_ne (c : Dev nD) (k : Fin 3) : peer c k ≠ c := by revert c k; decide

/-- The three peers of a device are three devices. -/
theorem peer_inj (c : Dev nD) {k k' : Fin 3} (h : peer c k = peer c k') : k = k' := by revert c k k'; decide

/-- At each distance, taking the peer permutes the devices. -/
def peerEquiv (k : Fin 3) : Dev nD ≃ Dev nD :=
  ⟨fun c => peer c k, fun c => peer c k.rev, fun c => peer_peer c k, fun c => peer_peer' c k⟩

theorem peer_div (c : Dev nD) (k : Fin 3) : (peer c k).val / 4 = c.val / 4 := by revert c k; decide

/-- The device numbers the kernel computes for its signals and for its transfers are the peers'. -/
theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c 0 := by revert c; decide
theorem dev5_eq (c : Dev nD) : (⟨k0_dev5 c, k0_dev5_lt c⟩ : Dev nD) = peer c 1 := by revert c; decide
theorem dev6_eq (c : Dev nD) : (⟨k0_dev6 c, k0_dev6_lt c⟩ : Dev nD) = peer c 2 := by revert c; decide

/-! ## Blocks -/

/-- The staged result and the staged argument. -/
abbrev outM : Memref sig .tc .vmem S1024x256 .bf16 := Memref.whole cc0_stg1_0
abbrev inM : Memref sig .tc .vmem S256x256 .bf16 := Memref.whole cc0_stg0_0

/-- The rows of the result that device `d` fills, as a part of the result's buffer. -/
abbrev blk (d : Dev nD) : Memref sig .tc .vmem S256x256 .bf16 :=
  outM.slice (Rect.unit (s := S1024x256) (k0_off2 d) S256x256.size (k0_off2_inb d)) (fun _ => rfl)

/-- The elements of the result buffer in `d`'s block. -/
def rows (d : Dev nD) : Finset S1024x256.Idx :=
  (Rect.unit (s := S1024x256) (k0_off2 d) S256x256.size (k0_off2_inb d)).set

theorem blk_set (d : Dev nD) : (blk d).view.set = rows d := View.set_slice_whole _ _

/-- An element lies in `d`'s block when its row does. -/
theorem mem_rows (d : Dev nD) (i : S1024x256.Idx) : i ∈ rows d ↔ (i 0).val / 256 = d.val % 4 := by
  unfold rows
  rw [Rect.mem_set_unit, k0_off2_eq]
  have h1 : (i 1).val < 256 := (i 1).isLt
  have h0 : (i 0).val < 1024 := (i 0).isLt
  rw [Fin.forall_fin_two]
  simp only [Matrix.cons_val_zero, Matrix.cons_val_one, S256x256]
  omega

end Cert.KProof
end
-- ==== Proof.Protocol.lean ====
/-
# The protocol

What each device's staged result holds at the end (`gath`), and the agreement the devices follow on the kernel's
semaphores. Every device has seven semaphores that matter:

* its barrier semaphore, raised by one by each of its three peers. With its unit a peer hands over the rows of ITS
  result buffer that this device will fill: from then on only this device may write there;
* three receive semaphores, one per peer: the peer's copy raises it by the copy's size, and with it come the rows the
  peer filled, holding the peer's block;
* three send semaphores, one per outgoing copy: its raise gives back the share of the source rows the copy read from.

A device waits at its barrier for all three units before it sends anything, so it holds the right to write on each
peer before it starts a copy. Receive semaphores rank above barrier semaphores, so no cycle of waits can arise: at its
barrier a device owes only copies, and at its other waits it owes nothing.
-/
module

public import proofs.«01_k».proof.Proof.Mesh
public import Idealize.ShloMosaic.Lib.Ring

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's, and the protocol's with duties numbered by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The contents of a staged result. -/
abbrev Out (F : FTy → Type) : Type := (cc0_stg1_0 : Ref sig .tc).ty.Contents (Elt F)

/-- Device `c`'s staged argument: its argument, as fetched. -/
def xstg (c : Dev nD) : (cc0_stg0_0 : Ref sig .tc).ty.Contents (Elt F) :=
  (win0_0.blk (0 : Fin 1)).view.read (Elt F) (m ((c : Thread nD τ).loc main_arg0))

set_option backward.proofsInPublic true in
/-- The device of `c`'s group whose block row `r` of the result belongs to. -/
def rowOwner (c : Dev nD) (r : Fin 1024) : Dev nD :=
  ⟨4 * (c.val / 4) + r.val / 256, by have h : c.val < 16 := c.isLt; have := r.isLt; show _ < 16; omega⟩

set_option backward.proofsInPublic true in
/-- The position inside its block of an element of the result. -/
def inner (i : S1024x256.Idx) : S256x256.Idx := fun a => match a with
  | ⟨0, _⟩ => (⟨(i 0).val % 256, Nat.mod_lt _ (by decide)⟩ : Fin 256)
  | ⟨1, _⟩ => (⟨(i 1).val, (i 1).isLt⟩ : Fin 256)

/-- The gathered result on device `c`: the blocks of the four devices of its group, stacked in the order of z. -/
def gath (c : Dev nD) : Out F := fun i => xstg m (rowOwner c (i 0)) (inner i)

omit [FloatOps F] in
/-- All devices of a group gather the same. -/
theorem gath_congr {c d : Dev nD} (h : d.val / 4 = c.val / 4) : gath (F := F) m d = gath m c := by
  funext i
  unfold gath
  rw [show rowOwner d (i 0) = rowOwner c (i 0) from Fin.ext (by simp only [rowOwner, h])]

omit [FloatOps F] in
theorem gath_peer (c : Dev nD) (k : Fin 3) : gath (F := F) m (peer c k) = gath m c := gath_congr m (peer_div c k)

omit [FloatOps F] in
/-- In `c`'s block of what `c` gathers stands `c`'s own argument. -/
theorem read_gath (c : Dev nD) : (blk c).view.read (Elt F) (gath m c) = xstg m c := by
  funext x
  have hx0 : (x 0).val < 256 := (x 0).isLt
  obtain ⟨y, hy⟩ : ∃ y : S1024x256.Idx, y = (blk c).view.emb x := ⟨_, rfl⟩
  have e0 : (y 0).val = 256 * (c.val % 4) + (x 0).val := by
    rw [hy]
    show k0_off2 c 0 + 1 * (x 0).val = _
    rw [k0_off2_eq, Nat.one_mul]; rfl
  have e1 : (y 1).val = (x 1).val := by
    rw [hy]
    show k0_off2 c 1 + 1 * (x 1).val = _
    rw [k0_off2_eq, Nat.one_mul]; exact Nat.zero_add _
  show gath m c ((blk c).view.emb x) = xstg m c x
  rw [show gath m c ((blk c).view.emb x) = gath m c y from congrArg (gath m c) hy.symm]
  have ho : rowOwner c (y 0) = c := Fin.ext (by
    show 4 * (c.val / 4) + (y 0).val / 256 = c.val
    omega)
  have hi : inner y = x := by
    funext a
    match a with
    | ⟨0, _⟩ => exact Fin.ext (by show (y 0).val % 256 = (x 0).val; omega)
    | ⟨1, _⟩ => exact Fin.ext e1
  unfold gath
  rw [ho, hi]

/-- Writing through a view what the view reads from `g` leaves `g` on the view's elements. -/
theorem write_read_on {κ : Kind} {sp : Space} {S : Shape} {e : EltTy} (v : View sig κ sp S e) {Val : EltTy → Type}
    (f g : v.ty.Contents Val) {i : v.ty.Idx} (hi : i ∈ v.set) : v.write Val f (v.read Val g) Finset.univ i = g i := by
  obtain ⟨y, -, rfl⟩ := Finset.mem_map.mp hi
  rw [View.write_emb_of_mem _ _ (Finset.mem_univ y), View.read_apply, cast_cast, cast_eq]

/-! ## Semaphores -/

/-- The barrier semaphore, the semaphores of the outgoing copies, those of the incoming ones. -/
abbrev barS : Sem sig := (SemArray.scalar (sig.barrier 0 rfl) : Sems sig S_).sem
set_option backward.proofsInPublic true in
def sendS (k : Fin 3) : DmaSem sig := (⟨2 + k.val, by omega⟩ : Fin 8)
set_option backward.proofsInPublic true in
def recvS (k : Fin 3) : DmaSem sig := (⟨5 + k.val, by omega⟩ : Fin 8)

/-- The seven semaphores of a device: barrier, sends, receives. -/
abbrev Slot : Type := Unit ⊕ (Fin 3 ⊕ Fin 3)
def csem : Slot → SemLoc sig
  | .inl _ => .reg barS
  | .inr (.inl k) => .dma (sendS k)
  | .inr (.inr k) => .dma (recvS k)
abbrev kcell (c : Dev nD) (s : Slot) : GSem nD τ sig := ((c : Thread nD τ), csem s)

abbrev sB : Slot := .inl ()
abbrev sS (k : Fin 3) : Slot := .inr (.inl k)
abbrev sR (k : Fin 3) : Slot := .inr (.inr k)

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

theorem csem_injective : Function.Injective csem := by decide

/-- What one copy adds to a semaphore. -/
abbrev N : ℕ := (outM.slice (Rect.unit (s := S1024x256) (k0_off2 0) S256x256.size (k0_off2_inb 0)) (fun _ => rfl)).view.dmaCredit
theorem N_pos : 0 < N := View.dmaCredit_pos _ (by decide)

/-! ## Holdings -/

/-- Device `p`'s result buffer, the rows of `d`, at share `q`, holding `f` there. -/
def pts (p d : Dev nD) (q : PosShare TreeShare) (f : Out F) : sProp 𝕄 :=
  (blk d).view.loc (p : Thread nD τ) ↦[(blk d).view.set]{q} f

omit [FloatOps F] in
theorem pts_rows (p d : Dev nD) (q : PosShare TreeShare) (f : Out F) :
    (pts p d q f : sProp 𝕄) = (((p : Thread nD τ).loc cc0_stg1_0) ↦[rows d]{q} f) := by
  unfold pts; rw [blk_set]

omit [FloatOps F] in
theorem storable_on (p d : Dev nD) (q : PosShare TreeShare) (f : Buf (Elt F) ((blk d).view.loc (p : Thread nD τ))) :
    BI.Storable (upEmb : UEmb _ 𝕄) ((blk d).view.loc (p : Thread nD τ) ↦[(blk d).view.set]{q} f) := inferInstance
omit [FloatOps F] in
instance pts_storable (p d : Dev nD) (q : PosShare TreeShare) (f : Out F) : BI.Storable (upEmb : UEmb _ 𝕄) (pts p d q f) :=
  storable_on p d q f

/-- The share of its own rows a device lends to its `k`-th copy; the three make up the whole. -/
def lent : Fin 3 → PosShare TreeShare
  | 0 => fullShare.left
  | 1 => fullShare.right.left
  | 2 => fullShare.right.right

omit [FloatOps F] in
theorem pts_lent (p d : Dev nD) (f : Out F) :
    (pts p d fullShare f : sProp 𝕄) = iprop(pts p d (lent 0) f ∗ pts p d (lent 1) f ∗ pts p d (lent 2) f) := by
  have h1 : (pts p d fullShare f : sProp 𝕄) = iprop(pts p d fullShare.left f ∗ pts p d fullShare.right f) :=
    BI.Entails.antisymm (pointsTo_share (PosShare.mem_left_op_right fullShare)).1 (pointsTo_share (PosShare.mem_left_op_right fullShare)).2
  have h2 : (pts p d fullShare.right f : sProp 𝕄) = iprop(pts p d fullShare.right.left f ∗ pts p d fullShare.right.right f) :=
    BI.Entails.antisymm (pointsTo_share (PosShare.mem_left_op_right fullShare.right)).1
      (pointsTo_share (PosShare.mem_left_op_right fullShare.right)).2
  rw [h1, h2]; rfl

omit [FloatOps F] in
/-- A whole result buffer is its four blocks: the device's own and its three peers'. -/
theorem pts_blocks (c : Dev nD) (f : Out F) :
    ((((c : Thread nD τ).loc cc0_stg1_0) ↦{fullShare} f) : sProp 𝕄)
      = iprop(pts c c fullShare f ∗ pts c (peer c 0) fullShare f ∗ pts c (peer c 1) fullShare f ∗ pts c (peer c 2) fullShare f) := by
  have hv : ∀ j : Fin 4, (ahead c j).val % 4 = (c.val % 4 + j.val) % 4 := fun j => by
    show (4 * (c.val / 4) + (c.val % 4 + j.val) % 4) % 4 = _
    omega
  have hd : ∀ b b' : Fin 4, b ≠ b' → Disjoint (rows (ahead c b)) (rows (ahead c b')) := fun b b' hb =>
    Finset.disjoint_left.mpr fun i hi hi' => hb (Fin.ext (by
      rw [mem_rows, hv] at hi hi'
      have := b.isLt; have := b'.isLt; omega))
  have hc : (Finset.univ : Finset (Fin 4)).biUnion (fun j => rows (ahead c j)) = Finset.univ :=
    Finset.eq_univ_iff_forall.mpr fun i => Finset.mem_biUnion.mpr (by
      have h0 : (i 0).val < 1024 := (i 0).isLt
      refine ⟨⟨((i 0).val / 256 + 4 - c.val % 4) % 4, Nat.mod_lt _ (by decide)⟩, Finset.mem_univ _, ?_⟩
      rw [mem_rows, hv]
      show _ = (c.val % 4 + ((i 0).val / 256 + 4 - c.val % 4) % 4) % 4
      omega)
  rw [Ring.pointsTo_blocks (fun j : Fin 4 => rows (ahead c j)) hd hc,
    bigSep_univ_eq_bigSepL [0, 1, 2, 3] (by decide) (by decide)]
  simp only [pts_rows]
  have h0 : rows c = rows (ahead c 0) := by rw [ahead_zero]
  rw [h0]
  rfl

/-! ## The schedule -/

/-- With its unit on `c`'s barrier, the `k`-th peer hands over `c`'s rows of its result buffer. -/
def barPay (c : Dev nD) (k : Fin 3) : sProp 𝕄 := iprop(∃ f, pts (peer c k) c fullShare f)
/-- With the `k`-th receive comes the `k`-th peer's block, in place. -/
def recvPay (c : Dev nD) (k : Fin 3) : sProp 𝕄 := pts c (peer c k) fullShare (gath m c)
/-- With the `k`-th send the share lent to it comes back. -/
def sendPay (c : Dev nD) (k : Fin 3) : sProp 𝕄 := pts c c (lent k) (gath m c)

set_option backward.proofsInPublic true in
/-- What comes with a raise, by the semaphore raised. -/
def pay (c : Dev nD) (s : SemLoc sig) (k : Fin 3) : sProp 𝕄 := match s with
  | .reg _ => barPay c k
  | .dma q => if q.val < 2 then iprop(emp) else if q.val < 5 then sendPay m c ⟨(q.val - 2) % 3, Nat.mod_lt _ (by decide)⟩
      else recvPay m c ⟨(q.val - 5) % 3, Nat.mod_lt _ (by decide)⟩

/-- How many units a raise adds. -/
def units (s : SemLoc sig) : ℕ := match s with
  | .reg _ => 1
  | .dma _ => N

/-- Who raises: all three peers raise a barrier; one copy raises each of the copies' semaphores; nobody in this protocol
    raises the staging semaphores. -/
def raisers (s : SemLoc sig) : Finset (Fin 3) := match s with
  | .reg _ => Finset.univ
  | .dma q => if q.val < 2 then ∅ else {0}

/-- One round for every semaphore. -/
def sched : Rounds.Schedule (GSem nD τ sig) (Fin 3) 𝕄 where
  duties g r := if r = 0 ∧ g.1.2 = .tc then raisers g.2 else ∅
  unitless _ := False
  amount g _ _ := units g.2
  payload g _ d := pay m g.1.1 g.2 d
  amount_pos g _ _ _ := by
    rcases g with ⟨_, _ | _⟩
    · exact Nat.one_pos
    · exact N_pos

instance sched_storable (g : GSem nD τ sig) (r : ℕ) (d : Fin 3) :
    BI.Storable (upEmb : UEmb _ 𝕄) ((sched (F := F) m).payload g r d) := by
  show BI.Storable upEmb (pay m g.1.1 g.2 d)
  rcases g with ⟨t, s | q⟩
  · show BI.Storable upEmb (barPay t.1 d)
    unfold barPay; infer_instance
  · show BI.Storable upEmb (if q.val < 2 then iprop(emp) else if q.val < 5 then sendPay m t.1 ⟨(q.val - 2) % 3, Nat.mod_lt _ (by decide)⟩
      else recvPay m t.1 ⟨(q.val - 5) % 3, Nat.mod_lt _ (by decide)⟩)
    unfold sendPay recvPay
    (repeat' split) <;> infer_instance

section Sched
variable (c : Dev nD) (k : Fin 3)

omit [FloatOps F] in
theorem duties_bar : (sched (F := F) m).duties (barCell c) 0 = Finset.univ := rfl
omit [FloatOps F] in
theorem duties_send : (sched (F := F) m).duties (sendCell c k) 0 = {0} := by revert k; intro k; fin_cases k <;> rfl
omit [FloatOps F] in
theorem duties_recv : (sched (F := F) m).duties (recvCell c k) 0 = {0} := by revert k; intro k; fin_cases k <;> rfl
omit [FloatOps F] in
theorem duties_later (g : GSem nD τ sig) : ∀ r, 1 ≤ r → (sched (F := F) m).duties g r = ∅ :=
  fun r hr => if_neg fun h => by omega

omit [FloatOps F] in
theorem expect_bar : (sched (F := F) m).expect (barCell c) 0 = 3 := by
  unfold Schedule.expect Schedule.amountOf
  rw [duties_bar]; rfl
omit [FloatOps F] in
theorem expect_send : (sched (F := F) m).expect (sendCell c k) 0 = N := by
  unfold Schedule.expect Schedule.amountOf; rw [duties_send, Finset.sum_singleton]; rfl
omit [FloatOps F] in
theorem expect_recv : (sched (F := F) m).expect (recvCell c k) 0 = N := by
  unfold Schedule.expect Schedule.amountOf; rw [duties_recv, Finset.sum_singleton]; rfl

omit [FloatOps F] in
theorem payload_bar : (sched (F := F) m).payload (barCell c) 0 k = barPay c k := rfl
omit [FloatOps F] in
theorem payload_send : (sched (F := F) m).payload (sendCell c k) 0 0 = sendPay m c k := by fin_cases k <;> rfl
omit [FloatOps F] in
theorem payload_recv : (sched (F := F) m).payload (recvCell c k) 0 0 = recvPay m c k := by fin_cases k <;> rfl

omit [FloatOps F] in
/-- What a device's signal to its `k`-th peer has to carry: the peer's rows of its own buffer. -/
theorem payload_bar_peer : (sched (F := F) m).payload (barCell (peer c k)) 0 k.rev = iprop(∃ f, pts c (peer c k) fullShare f) := by
  rw [payload_bar]; unfold barPay; rw [peer_peer]
omit [FloatOps F] in
/-- What a device's copy to its `k`-th peer has to carry: its own block, in place on the peer. -/
theorem payload_recv_peer :
    (sched (F := F) m).payload (recvCell (peer c k) k.rev) 0 0 = pts (peer c k) c fullShare (gath m c) := by
  rw [payload_recv]; unfold recvPay; rw [peer_peer, gath_peer]

omit [FloatOps F] in
/-- All that a barrier's three units bring. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]
  rfl
omit [FloatOps F] in
theorem rest_send : bigSep ((sched (F := F) m).duties (sendCell c k) 0 \ ∅) (fun d => (sched (F := F) m).payload (sendCell c k) 0 d)
    = sendPay m c k := by
  rw [Finset.sdiff_empty, duties_send, bigSep_singleton, payload_send]
omit [FloatOps F] in
theorem rest_recv : bigSep ((sched (F := F) m).duties (recvCell c k) 0 \ ∅) (fun d => (sched (F := F) m).payload (recvCell c k) 0 d)
    = recvPay m c k := by
  rw [Finset.sdiff_empty, duties_recv, bigSep_singleton, payload_recv]

end Sched

/-! ## What each device owes, and the ranks -/

/-- The copies a device still owes before its first, second, third one; then the signals before those. The order is that
    of the kernel, so each step takes off the last summand. -/
def O₅ (c : Dev nD) : CellTallies nD τ sig Unit := 0 + tallyAt (recvCell (peer c 2) (Fin.rev 2)) () N
def O₄ (c : Dev nD) : CellTallies nD τ sig Unit := O₅ c + tallyAt (recvCell (peer c 1) (Fin.rev 1)) () N
def O₃ (c : Dev nD) : CellTallies nD τ sig Unit := O₄ c + tallyAt (recvCell (peer c 0) (Fin.rev 0)) () N
def O₂ (c : Dev nD) : CellTallies nD τ sig Unit := O₃ c + tallyAt (barCell (peer c 2)) () 1
def O₁ (c : Dev nD) : CellTallies nD τ sig Unit := O₂ c + tallyAt (barCell (peer c 1)) () 1
def O₀ (c : Dev nD) : CellTallies nD τ sig Unit := O₁ c + tallyAt (barCell (peer c 0)) () 1

/-- Before its first copy a device owes the sum over its peers of one copy each. -/
theorem O₃_eq (c : Dev nD) : O₃ c = ∑ k : Fin 3, tallyAt (recvCell (peer c k) k.rev) () N := by
  unfold O₃ O₄ O₅
  rw [Fin.sum_univ_three, zero_add, add_comm (tallyAt _ _ _ + _), add_comm (tallyAt (recvCell (peer c 2) _) _ _), add_assoc]

/-- At the start it owes that and one signal per peer. -/
theorem O₀_eq (c : Dev nD) :
    O₀ c = (∑ k : Fin 3, tallyAt (recvCell (peer c k) k.rev) () N) + ∑ k : Fin 3, tallyAt (barCell (peer c k)) () 1 := by
  unfold O₀ O₁ O₂
  rw [O₃_eq, Fin.sum_univ_three (fun k => tallyAt (barCell (peer c k)) () 1), add_comm (tallyAt (barCell (peer c 0)) () 1),
    add_comm (tallyAt (barCell (peer c 1)) () 1 + _)]
  simp only [add_assoc]

/-- The devices' TensorCores carry one level each; other cores none. -/
def L (g : GSem nD τ sig) : Finset Unit := if g.1.2 = .tc then {()} else ∅

/-- Ranks: barriers 1, receives 2, everything else (staging, sends) 0. -/
def rank (s : SemLoc sig) : ℕ := match s with
  | .reg _ => 1
  | .dma q => if q.val < 5 then 0 else 2
def lv (g : GSem nD τ sig) (_ : Unit) : ℕ := rank g.2

theorem L_of_ne (g : GSem nD τ sig) (h : g.1.2 ≠ .tc) : L g = ∅ := if_neg h
theorem L_tc (c : Dev nD) (sm : SemLoc sig) : L ((c : Thread nD τ), sm) = {()} := if_pos rfl

theorem rank_recv (k : Fin 3) : rank (.dma (recvS k)) = 2 := by revert k; decide

theorem sum_pos {f : Fin 3 → CellTallies nD τ sig Unit} {g : GSem nD τ sig} {u : Unit}
    (h : 0 < (∑ k, f k) g u) : ∃ k, 0 < f k g u := by
  rw [Fin.sum_univ_three, Pi.add_apply, Finsupp.add_apply, Pi.add_apply, Finsupp.add_apply] at h
  by_contra hn
  simp only [not_exists, Nat.not_lt, Nat.le_zero] at hn
  rw [hn 0, hn 1, hn 2] at h
  exact Nat.lt_irrefl 0 h

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- Before its first copy a device owes receives only; -/
theorem O₃_pos {c : Dev nD} {g : GSem nD τ sig} {u : Unit} (h : 0 < O₃ c g u) : ∃ d k, g = recvCell d k := by
  rw [O₃_eq] at h
  obtain ⟨k, hk⟩ := sum_pos h
  exact ⟨_, _, tally_pos hk⟩

/-- at the start receives and barriers. -/
theorem O₀_pos {c : Dev nD} {g : GSem nD τ sig} {u : Unit} (h : 0 < O₀ c g u) :
    (∃ d k, g = recvCell d k) ∨ ∃ d, g = barCell d := by
  rw [O₀_eq, Pi.add_apply, Finsupp.add_apply] at h
  rcases Nat.add_pos_iff_pos_or_pos.mp h with h | h
  · obtain ⟨k, hk⟩ := sum_pos h; exact .inl ⟨_, _, tally_pos hk⟩
  · obtain ⟨k, hk⟩ := sum_pos h; exact .inr ⟨_, tally_pos hk⟩

omit [FloatOps F] in
/-- A device may wait at its staging semaphores, at the start and when it owes nothing. -/
theorem mayWait_stage (c : Dev nD) (q : DmaSem sig) (hq : rank (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; exact hq.le)
      (fun g u hg => by
        rcases O₀_pos hg with ⟨_, k, rfl⟩ | ⟨_, rfl⟩
        · show 0 < rank _; rw [rank_recv]; decide
        · exact Nat.one_pos)
  · rw [MayWait_zero]; iintro -; iempintro

omit [FloatOps F] in
/-- A device may wait at its barrier owing its copies: receives rank above barriers. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨_, _, rfl⟩ := O₃_pos hg; exact Finset.mem_singleton_self _)
    (fun p hp => by rw [Finset.mem_singleton.mp hp]; exact le_rfl)
    (fun g u hg => by
      obtain ⟨_, k, rfl⟩ := O₃_pos hg
      show 1 < rank _; rw [rank_recv]; decide)

end Cert.KProof
end
-- ==== Proof.Steps.lean ====
/-
# The kernel's steps

One theorem per kind of step the kernel takes: a signal to a peer, the wait at the barrier, the load of the argument
and the store of the own block, a copy to a peer, the wait for a peer's copy, the wait for an own copy to have been
read. Each is stated once for every peer `k`, over the protocol of `Protocol`.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What all devices may consult at any time: every semaphore's invariant, under the names `K`, and that its round has
    begun. -/
def records (K : Dev nD × Slot → ℕ) : sProp 𝕄 :=
  iprop((bigSep Finset.univ fun cs : Dev nD × Slot => cellInv ER (sched m) (K cs) (kcell cs.1 cs.2))
    ∗ bigSep Finset.univ fun cs : Dev nD × Slot => reached ER (kcell cs.1 cs.2) 0)

instance records_persistent (K : Dev nD × Slot → ℕ) : BI.Persistent (records m K) := by unfold records; infer_instance

omit [FloatOps F] in
theorem inv_of (K : Dev nD × Slot → ℕ) (c : Dev nD) (s : Slot) :
    (records m K : sProp 𝕄) ⊢ cellInv ER (sched m) (K (c, s)) (kcell c s) := by
  unfold records
  iintro ⟨H, -⟩
  have h : bigSep Finset.univ (fun cs : Dev nD × Slot => (cellInv ER (sched m) (K cs) (kcell cs.1 cs.2) : sProp 𝕄)) ⊢ _ := bigSep_elim (Finset.mem_univ (c, s))
  iapply h
  iexact H

omit [FloatOps F] in
theorem reached_of (K : Dev nD × Slot → ℕ) (c : Dev nD) (s : Slot) :
    (records m K : sProp 𝕄) ⊢ reached ER (kcell c s) 0 := by
  unfold records
  iintro ⟨-, H⟩
  have h : bigSep Finset.univ (fun cs : Dev nD × Slot => (reached ER (kcell cs.1 cs.2) 0 : sProp 𝕄)) ⊢ _ := bigSep_elim (Finset.mem_univ (c, s))
  iapply h
  iexact H

variable (K : Dev nD × Slot → ℕ)

/-- A program runs on device `c` to an end at which `Q` holds of its result. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable {α : Type} {Q : α → sProp (MT nD τ sig Unit (Elt F) ℕ UU ℕ)} {kont : PUnit → Prog (TpuEff nD τ sig (Elt F) Λ₀ .tc) α} (c : Dev nD)

omit [FloatOps F] in
/-- A semaphore whose round is over can be taken out of the protocol: it reads zero. -/
theorem retire (s : Slot) : iprop(records m K ∗ atPos ER (kcell c s) (0 + 1) ∅ 0) ⊢ (|={Set.univ}=> semVal (kcell c s) 0 : sProp 𝕄) := by
  iintro ⟨#HR, Hat⟩
  iapply (Rounds.cell_close ER (sched m) (Set.mem_univ (K (c, s))) (fun h => h) (R := 0 + 1) (duties_later m (kcell c s)))
  isplitr
  · iapply (inv_of m K c s); iexact HR
  · iexact Hat

/-- The signal to the `k`-th peer, handing over the peer's rows of the own result buffer. -/
theorem wp_tell (k : Fin 3) (n : Dev nD) (hn : n = peer c k) {u : ℕ} (hu : u = 1) (O : CellTallies nD τ sig Unit) (W : Waits sig Unit) :
    iprop(records m K ∗ owes (c : Thread nD τ) (O + tallyAt (barCell (peer c k)) () 1) W ∗ dutyTok ER (barCell (peer c k)) 0 k.rev
        ∗ (∃ f, pts c (peer c k) fullShare f))
      ⊢ iprop((owes (c : Thread nD τ) O W -∗ runs c (kont ⟨⟩) Q)
          -∗ runs c (.op (.semSignal (n : Thread nD τ) barS u) kont) Q) := by
  subst hn hu
  iintro ⟨#HR, HO, Ht, Hp⟩
  iapply (Rounds.wp_signal 𝒱₀ ER (sched m) (c : Thread nD τ) none (dst := (peer c k : Thread nD τ)) (κ := K (peer c k, sB))
    (d := k.rev) (by rw [duties_bar]; exact Finset.mem_univ _) rfl () O rfl)
  isplitr; · iapply (inv_of m K (peer c k) sB); iexact HR
  isplitl [HO]; · iexact HO
  isplitl [Ht]; · iexact Ht
  isplitl [Hp]; · rw [payload_bar_peer]; iexact Hp
  iapply (reached_of m K (peer c k) sB); iexact HR

/-- The wait at the barrier for the three peers' units, owing the three copies: the peers' rows come with it, and the
    barrier reads zero again. -/
theorem wp_meet {u : ℕ} (hu : u = 3) (W : Waits sig Unit) :
    iprop(records m K ∗ levAts L lv ∗ cred (tallyAt (barCell c) () 3) ∗ owes (c : Thread nD τ) (O₃ c) W ∗ atPos ER (barCell c) 0 ∅ 0)
      ⊢ iprop(((owes (c : Thread nD τ) (O₃ c) (insert (SemLoc.reg barS, ()) W) ∗ (barPay c 0 ∗ barPay c 1 ∗ barPay c 2) ∗ semVal (barCell c) 0)
            -∗ runs c (kont ⟨⟩) Q)
          -∗ runs c (.op (.semWait barS u) kont) Q) := by
  subst hu
  iintro ⟨#HR, #Hlev, Hc, HO, Hat⟩ Hk
  iapply (Rounds.wp_wait_rest_token 𝒱₀ ER (sched m) (c : Thread nD τ) none (κ := K (c, sB))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (inv_of m K c sB); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m c)) $$ Hp
  imod (retire m K c sB) $$ [Hat] with Hz
  · isplitr; · iexact HR
    iexact Hat
  iapply Hk
  isplitl [HO]; · iexact HO
  isplitl [Hp]; · iexact Hp
  iexact Hz

/-- The wait for the `k`-th peer's copy: the peer's block stands in place, and the semaphore reads zero. -/
theorem wp_landed (k : Fin 3) {q : DmaSem sig} (hq : q = recvS k) {off : Fin 2 → ℕ}
    {inb : ∀ a, off a + S256x256.size a ≤ S1024x256.size a} {src : Memref sig .tc .vmem S256x256 .bf16}
    {hsrc : src.view.WordExact}
    {hdst : (outM.slice (Rect.unit (s := S1024x256) off S256x256.size inb) (fun _ => rfl)).view.WordExact} (W : Waits sig Unit) :
    iprop(records m K ∗ cred (tallyAt (recvCell c k) () N) ∗ owes (c : Thread nD τ) 0 W ∗ atPos ER (recvCell c k) 0 ∅ 0)
      ⊢ iprop(((owes (c : Thread nD τ) 0 (insert (SemLoc.dma (recvS k), ()) W) ∗ recvPay m c k ∗ semVal (recvCell c k) 0)
            -∗ runs c (kont ⟨⟩) Q)
          -∗ runs c (.op (.waitDma2 q src (outM.slice (Rect.unit (s := S1024x256) off S256x256.size inb) (fun _ => rfl)) hsrc hdst) kont) Q) := by
  subst hq
  iintro ⟨#HR, Hc, HO, Hat⟩ Hk
  iapply (Rounds.wp_wait_rest_token 𝒱₀ ER (sched m) (c : Thread nD τ) none (κ := K (c, sR k))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iapply (inv_of m K c (sR k)); iexact HR
    isplitl [Hc]; · iexact Hc
    isplitl [HO]; · iexact HO
    isplitr; · rw [MayWait_zero]; iempintro
    iexact Hat
  iintro ⟨HO, Hat, -, Hp⟩
  ihave Hp := (Entails.of_eq (rest_recv m c k)) $$ Hp
  imod (retire m K c (sR k)) $$ [Hat] with Hz
  · isplitr; · iexact HR
    iexact Hat
  iapply Hk
  isplitl [HO]; · iexact HO
  isplitl [Hp]; · iexact Hp
  iexact Hz

/-- The wait for the own `k`-th copy to have been read: the lent share comes back, and the semaphore reads zero. -/
theorem wp_sent (k : Fin 3) {q : DmaSem sig} (hq : q = sendS k) {off : Fin 2 → ℕ}
    {inb : ∀ a, off a + S256x256.size a ≤ S1024x256.size a} {src : Memref sig .tc .vmem S256x256 .bf16}
    {hsrc : src.view.WordExact}
    {hdst : (outM.slice (Rect.unit (s := S1024x256) off S256x256.size inb) (fun _ => rfl)).view.WordExact} (W : Waits sig Unit) :
    iprop(records m K ∗ cred (tallyAt (sendCell c k) () N) ∗ owes (c : Thread nD τ) 0 W ∗ atPos ER (sendCell c k) 0 ∅ 0)
      ⊢ iprop(((owes (c : Thread nD τ) 0 (insert (SemLoc.dma (sendS k), ()) W) ∗ sendPay m c k ∗ semVal (sendCell c k) 0)
            -∗ runs c (kont ⟨⟩) Q)
          -∗ runs c (.op (.waitDma2 q src (outM.slice (Rect.unit (s := S1024x256) off S256x256.size inb) (fun _ => rfl)) hsrc hdst) kont) Q) := by
  subst hq
  iintro ⟨#HR, Hc, HO, Hat⟩ Hk
  iapply (Rounds.wp_wait_rest_token 𝒱₀ ER (sched m) (c : Thread nD τ) none (κ := K (c, sS k))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_of m K c (sS k)); iexact HR
    isplitl [Hc]; · iexact Hc
    isplitl [HO]; · iexact HO
    isplitr; · rw [MayWait_zero]; iempintro
    iexact Hat
  iintro ⟨HO, Hat, -, Hp⟩
  ihave Hp := (Entails.of_eq (rest_send m c k)) $$ Hp
  imod (retire m K c (sS k)) $$ [Hat] with Hz
  · isplitr; · iexact HR
    iexact Hat
  iapply Hk
  isplitl [HO]; · iexact HO
  isplitl [Hp]; · iexact Hp
  iexact Hz

/-- The copy of the own block to the `k`-th peer: it lends a share of the own rows and uses up the right to the peer's. -/
theorem wp_copy (k : Fin 3) (n : Dev nD) (hn : n = peer c k) {s r : DmaSem sig} (hs : s = sendS k) (hr : r = recvS k.rev)
    {hsc : (blk c : Memref sig (Dev.tc n : Thread nD τ).2.kind .vmem S256x256 .bf16).view.ref.isScScratch = false}
    {hsrc : (blk c).view.WordExact} {hdst : (blk c).view.WordExact}
    {hsem : DmaTarget.Typed .vmem (.dma r) (.remote (Dev.tc n : Thread nD τ) (blk c) (.dma s) hsc)}
    (O : CellTallies nD τ sig Unit) (W : Waits sig Unit) :
    iprop(records m K ∗ pts c c (lent k) (gath m c) ∗ barPay c k
        ∗ owes (c : Thread nD τ) (O + tallyAt (recvCell (peer c k) k.rev) () N) W
        ∗ dutyTok ER (sendCell c k) 0 0 ∗ dutyTok ER (recvCell (peer c k) k.rev) 0 0)
      ⊢ iprop(((cred (tallyAt (sendCell c k) () N) ∗ owes (c : Thread nD τ) O W) -∗ runs c (kont ⟨⟩) Q)
          -∗ runs c (.op (.enqueueDma (blk c) (.remote (Dev.tc n : Thread nD τ) (blk c) (.dma s) hsc) (.dma r) hsrc hdst hsem) kont) Q) := by
  subst hn hs hr
  unfold barPay
  iintro ⟨#HR, Hs, ⟨%f, Hd⟩, HO, Ht1, Ht2⟩
  iapply (Rounds.wp_send_pointsTo 𝒱₀ ER (sched m) (c : Thread nD τ) none (κ₁ := K (c, sS k)) (κ₂ := K (peer c k, sR k.rev))
    (r₁ := 0) (r₂ := 0) (d₁ := 0) (d₂ := 0) (q := lent k) (fs := gath m c) (fd := f)
    (by rw [duties_send]; exact Finset.mem_singleton_self _) (by rw [duties_recv]; exact Finset.mem_singleton_self _)
    () () N rfl rfl rfl O rfl (W := W)
    (by rw [payload_send]; exact BI.Entails.refl _)
    (by
      rw [payload_recv_peer]; unfold pts
      exact Entails.of_eq (pointsTo_congr fun i hi => write_read_on (blk c).view f (gath m c) hi)))
  isplitr; · iapply (inv_of m K c (sS k)); iexact HR
  isplitr; · iapply (inv_of m K (peer c k) (sR k.rev)); iexact HR
  isplitl [Hs]; · unfold pts; iexact Hs
  isplitl [Hd]; · unfold pts; iexact Hd
  isplitl [HO]; · iexact HO
  isplitl [Ht1]; · iexact Ht1
  isplitr; · iapply (reached_of m K c (sS k)); iexact HR
  isplitl [Ht2]; · iexact Ht2
  iapply (reached_of m K (peer c k) (sR k.rev)); iexact HR

/-- The rows the kernel loads from and stores to are its own block's. -/
theorem off1_eq : k0_off1 c = k0_off2 c := by rw [k0_off1_eq, k0_off2_eq]

/-- A load of the own block's rows changes nothing. -/
theorem wp_peek {off : Fin 2 → ℕ} {inb : ∀ a, off a + S256x256.size a ≤ S1024x256.size a} (ho : off = k0_off2 c)
    {hl : outM.view.LoadsAt (Rect.unit (s := S1024x256) off S256x256.size inb).toLoadRect}
    {kv : (S256x256.Idx → Elt F .bf16) → Prog (TpuEff nD τ sig (Elt F) Λ₀ .tc) α} (f : Out F) :
    (pts c c fullShare f : sProp 𝕄)
      ⊢ iprop((∀ v, pts c c fullShare f -∗ runs c (kv v) Q)
          -∗ runs c (.op (.load outM (Rect.unit (s := S1024x256) off S256x256.size inb).toLoadRect hl) kv) Q) := by
  subst ho
  unfold pts
  iintro H Hk
  iapply (wp_load_rect 𝒱₀ (c : Thread nD τ) none Set.univ (m := outM)
    (r := Rect.unit (s := S1024x256) (k0_off2 c) S256x256.size inb) (S := (blk c).view.set) (f := f) (Finset.Subset.refl _)) $$ H
  iintro H
  iapply Hk
  iexact H

/-- The store of the own argument to the own block's rows. -/
theorem wp_fill {off : Fin 2 → ℕ} {inb : ∀ a, off a + S256x256.size a ≤ S1024x256.size a} (ho : off = k0_off2 c)
    {w : S256x256.Idx → Elt F .bf16} (hw : w = xstg m c)
    {hx : (outM.access (Rect.unit (s := S1024x256) off S256x256.size inb)).Stores Finset.univ}
    {hm : (Finset.univ : Finset (Rect.unit (s := S1024x256) off S256x256.size inb).shape.Idx) = Finset.univ
      ∨ ∀ a, (Rect.unit (s := S1024x256) off S256x256.size inb).stride a = 1} (f : Out F) :
    (pts c c fullShare f : sProp 𝕄)
      ⊢ iprop((pts c c fullShare (gath m c) -∗ runs c (kont ⟨⟩) Q)
          -∗ runs c (.op (.store outM (Rect.unit (s := S1024x256) off S256x256.size inb) w Finset.univ hx hm) kont) Q) := by
  subst ho hw
  unfold pts
  rw [← read_gath m c]
  iintro H Hk
  iapply (wp_store 𝒱₀ (c : Thread nD τ) none Set.univ (m := outM)
    (r := Rect.unit (s := S1024x256) (k0_off2 c) S256x256.size inb) (S := (blk c).view.set) (f := f) (Finset.Subset.refl _)) $$ H
  iintro H
  iapply Hk
  ihave H := (Entails.of_eq (pointsTo_congr (ℓ := (blk c).view.loc (c : Thread nD τ)) (q := fullShare)
    fun i hi => write_read_on (blk c).view f (gath m c) hi)) $$ H
  iexact H

end Steps

end Cert.KProof
end
-- ==== Proof.Body.lean ====
/-
# The kernel's body

What a device's program holds before and after it runs, and the run itself: the step theorems of `Steps` in program
order. It ends with the result buffer holding the four blocks of the ring, nothing owed and all seven semaphores at zero.
-/
module

public import proofs.«01_k».proof.Proof.Steps
public import proofs.«01_k».proof.Proof.Gen.KernelIdeal.Points
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds -/

omit [FloatOps F] in
/-- A conjunction over the three peers, written out. -/
theorem three (Φ : Fin 3 → sProp 𝕄) : bigSep Finset.univ Φ = iprop(Φ 0 ∗ Φ 1 ∗ Φ 2) := by
  rw [bigSep_univ_eq_bigSepL [0, 1, 2] (by decide) (by decide)]; rfl

/-- Device `c`'s part of the protocol at the start: the records; its position at the first round of its seven
    semaphores; and the right to raise, once each, its peers' barriers, its peers' receive semaphores and its own send
    semaphores. -/
def ghost (K : Dev nD × Slot → ℕ) (c : Dev nD) : sProp 𝕄 :=
  iprop(records m K
    ∗ (atPos ER (barCell c) 0 ∅ 0
      ∗ (bigSep Finset.univ fun k => atPos ER (sendCell c k) 0 ∅ 0)
      ∗ bigSep Finset.univ fun k => atPos ER (recvCell c k) 0 ∅ 0)
    ∗ (bigSep Finset.univ fun k : Fin 3 => dutyTok ER (barCell (peer c k)) 0 k.rev)
    ∗ (bigSep Finset.univ fun k => dutyTok ER (sendCell c k) 0 0)
    ∗ bigSep Finset.univ fun k : Fin 3 => dutyTok ER (recvCell (peer c k) k.rev) 0 0)

/-- What device `c` may wait for: three units of its barrier and one block's worth at each receive semaphore. -/
def credits (c : Dev nD) : sProp 𝕄 :=
  iprop(cred (tallyAt (barCell c) () 3) ∗ bigSep Finset.univ fun k => cred (tallyAt (recvCell c k) () N))

/-- Before the body: the device's part of the protocol under some names, its credits, and the order of waiting. -/
def Φ₀ (c : Dev nD) : sProp 𝕄 := iprop((∃ K, ghost m K c) ∗ credits c ∗ levAts L lv)

/-- After the body: the seven semaphores, all at zero. -/
def Φ₁ (c : Dev nD) : sProp 𝕄 :=
  iprop(semVal (barCell c) 0 ∗ (bigSep Finset.univ fun k => semVal (sendCell c k) 0)
    ∗ bigSep Finset.univ fun k => semVal (recvCell c k) 0)

/-- The pipelined call's data on device `c`: the arrays as the launch finds them, the argument window unchanged by the
    body, the result window filled with the ring's blocks, and the tally owed before (`O₀`) and after (nothing). -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gath m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem two (Φ : Fin cfg0.W → sProp 𝕄) : bigSep Finset.univ Φ = iprop(Φ (0 : Fin 2) ∗ Φ (1 : Fin 2)) := bigSep_W0 Φ

theorem N_one : cfg0.N = 1 := by decide
/-- The call's only point. -/
def t₀ : Fin cfg0.N := ⟨0, by rw [N_one]; decide⟩
theorem eq_t₀ (t : Fin cfg0.N) : t = t₀ := by
  obtain ⟨t, ht⟩ := t; have := N_one; exact Fin.ext (by simp only [t₀]; omega)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The semaphores as the kernel names them -/

theorem send0 : ((cc0_scratch0.slice (Rect.unit (s := S3) ![0] S1.size inb_S3_S1_0)).squeeze S_ squeezes_S1_S_).sem = sendS 0 := by decide
theorem send1 : ((cc0_scratch0.slice (Rect.unit (s := S3) ![1] S1.size inb_S3_S1_1)).squeeze S_ squeezes_S1_S_).sem = sendS 1 := by decide
theorem send2 : ((cc0_scratch0.slice (Rect.unit (s := S3) ![2] S1.size inb_S3_S1_2)).squeeze S_ squeezes_S1_S_).sem = sendS 2 := by decide
theorem recv0 : ((cc0_scratch1.slice (Rect.unit (s := S3) ![0] S1.size inb_S3_S1_0)).squeeze S_ squeezes_S1_S_).sem = recvS 0 := by decide
theorem recv1 : ((cc0_scratch1.slice (Rect.unit (s := S3) ![1] S1.size inb_S3_S1_1)).squeeze S_ squeezes_S1_S_).sem = recvS 1 := by decide
theorem recv2 : ((cc0_scratch1.slice (Rect.unit (s := S3) ![2] S1.size inb_S3_S1_2)).squeeze S_ squeezes_S1_S_).sem = recvS 2 := by decide

/-! ## The run -/

omit [FloatOps F] in
theorem corner : (![0, 0] : Fin 2 → Nat) = fun _ => 0 := funext fun a => by fin_cases a <;> rfl
omit [FloatOps F] in
/-- The load of the argument reads all of it. -/
theorem read_in (f : (cc0_stg0_0 : Ref sig .tc).ty.Contents (Elt F)) :
    (inM : Memref sig .tc .vmem S256x256 .bf16).view.readAt (Elt F)
      (Rect.unit (s := S256x256) ![0, 0] S256x256.size inb_S256x256_S256x256_0_0).toLoadRect f = f :=
  Memref.readAt_unit_zero (Elt F) cc0_stg0_0 corner _ f

omit [FloatOps F] in
/-- The stored value is the loaded one: its change of shape changes nothing. -/
theorem pay_eq (v : Vec F S256x256 .bf16) : k0_pay1 v = v := by unfold k0_pay1; exact shapeCast_self v _

/-- A staging buffer of device `c` with contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (gath m c))

set_option maxHeartbeats 1600000 in
/-- The body runs from `bodyPre` to `bodyPost`. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ ghost credits
  simp only [three]
  iintro ⟨⟨⟨⟨%K, #HR, ⟨HaB, ⟨HaS0, HaS1, HaS2⟩, HaR0, HaR1, HaR2⟩, ⟨HtB0, HtB1, HtB2⟩, ⟨HtS0, HtS1, HtS2⟩, HtR0, HtR1, HtR2⟩,
    ⟨HcB, HcR0, HcR1, HcR2⟩, #Hlev⟩, Ho, ⟨%d0, %g0, %hg0, Hx⟩, ⟨%d1, %g1, %hg1, Hout⟩⟩, Hk⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  ihave Hout := (Entails.of_eq (pts_blocks c g1)) $$ Hout
  icases Hout with ⟨Hown, Hp0, Hp1, Hp2⟩
  unfold O₀
  iapply (wp_tell m K c 0 _ (dev1_eq c) rfl (O₁ c) W) $$ [HO HtB0 Hp0]
  · isplitr; · iexact HR
    isplitl [HO]; · iexact HO
    isplitl [HtB0]; · iexact HtB0
    iexists g1; iexact Hp0
  iintro HO
  unfold O₁
  iapply (wp_tell m K c 1 _ (dev2_eq c) rfl (O₂ c) W) $$ [HO HtB1 Hp1]
  · isplitr; · iexact HR
    isplitl [HO]; · iexact HO
    isplitl [HtB1]; · iexact HtB1
    iexists g1; iexact Hp1
  iintro HO
  unfold O₂
  iapply (wp_tell m K c 2 _ (dev3_eq c) rfl (O₃ c) W) $$ [HO HtB2 Hp2]
  · isplitr; · iexact HR
    isplitl [HO]; · iexact HO
    isplitl [HtB2]; · iexact HtB2
    iexists g1; iexact Hp2
  iintro HO
  iapply (wp_meet m K c rfl W) $$ [HO HcB HaB]
  · isplitr; · iexact HR
    isplitr; · iexact Hlev
    isplitl [HcB]; · iexact HcB
    isplitl [HO]; · iexact HO
    iexact HaB
  iintro ⟨HO, ⟨Hq0, Hq1, Hq2⟩, HzB⟩
  iapply (wp_load 𝒱₀ (c : Thread nD τ) none Set.univ (m := inM) (Finset.subset_univ _)) $$ Hx; iintro Hx
  rw [read_in]
  iapply (wp_peek c (off1_eq c) g1) $$ Hown; iintro %v Hown
  iapply (wp_fill m c (off1_eq c) (pay_eq _) g1) $$ Hown; iintro Hown
  ihave Hown := (Entails.of_eq (pts_lent c c (gath m c))) $$ Hown
  icases Hown with ⟨Ho0, Ho1, Ho2⟩
  unfold O₃
  iapply (wp_copy m K c 0 _ (dev4_eq c) send0 recv2 (O₄ c) _) $$ [HO Ho0 Hq0 HtS0 HtR0]
  · isplitr; · iexact HR
    isplitl [Ho0]; · iexact Ho0
    isplitl [Hq0]; · iexact Hq0
    isplitl [HO]; · iexact HO
    isplitl [HtS0]; · iexact HtS0
    iexact HtR0
  iintro ⟨HcS0, HO⟩
  unfold O₄
  iapply (wp_copy m K c 1 _ (dev5_eq c) send1 recv1 (O₅ c) _) $$ [HO Ho1 Hq1 HtS1 HtR1]
  · isplitr; · iexact HR
    isplitl [Ho1]; · iexact Ho1
    isplitl [Hq1]; · iexact Hq1
    isplitl [HO]; · iexact HO
    isplitl [HtS1]; · iexact HtS1
    iexact HtR1
  iintro ⟨HcS1, HO⟩
  unfold O₅
  iapply (wp_copy m K c 2 _ (dev6_eq c) send2 recv0 0 _) $$ [HO Ho2 Hq2 HtS2 HtR2]
  · isplitr; · iexact HR
    isplitl [Ho2]; · iexact Ho2
    isplitl [Hq2]; · iexact Hq2
    isplitl [HO]; · iexact HO
    isplitl [HtS2]; · iexact HtS2
    iexact HtR2
  iintro ⟨HcS2, HO⟩
  iapply (wp_landed m K c 0 recv0 _) $$ [HO HcR0 HaR0]
  · isplitr; · iexact HR
    isplitl [HcR0]; · iexact HcR0
    isplitl [HO]; · iexact HO
    iexact HaR0
  iintro ⟨HO, Hr0, HzR0⟩
  iapply (wp_landed m K c 1 recv1 _) $$ [HO HcR1 HaR1]
  · isplitr; · iexact HR
    isplitl [HcR1]; · iexact HcR1
    isplitl [HO]; · iexact HO
    iexact HaR1
  iintro ⟨HO, Hr1, HzR1⟩
  iapply (wp_landed m K c 2 recv2 _) $$ [HO HcR2 HaR2]
  · isplitr; · iexact HR
    isplitl [HcR2]; · iexact HcR2
    isplitl [HO]; · iexact HO
    iexact HaR2
  iintro ⟨HO, Hr2, HzR2⟩
  iapply (wp_sent m K c 0 send0 _) $$ [HO HcS0 HaS0]
  · isplitr; · iexact HR
    isplitl [HcS0]; · iexact HcS0
    isplitl [HO]; · iexact HO
    iexact HaS0
  iintro ⟨HO, Ho0, HzS0⟩
  iapply (wp_sent m K c 1 send1 _) $$ [HO HcS1 HaS1]
  · isplitr; · iexact HR
    isplitl [HcS1]; · iexact HcS1
    isplitl [HO]; · iexact HO
    iexact HaS1
  iintro ⟨HO, Ho1, HzS1⟩
  iapply (wp_sent m K c 2 send2 _) $$ [HO HcS2 HaS2]
  · isplitr; · iexact HR
    isplitl [HcS2]; · iexact HcS2
    isplitl [HO]; · iexact HO
    iexact HaS2
  iintro ⟨HO, Ho2, HzS2⟩
  unfold sendPay recvPay
  ihave Hown := (Entails.of_eq (pts_lent c c (gath m c)).symm) $$ [Ho0 Ho1 Ho2]
  · isplitl [Ho0]; · iexact Ho0
    isplitl [Ho1] <;> iassumption
  ihave Hout := (Entails.of_eq (pts_blocks c (gath m c)).symm) $$ [Hown Hr0 Hr1 Hr2]
  · isplitl [Hown]; · iexact Hown
    isplitl [Hr0]; · iexact Hr0
    isplitl [Hr1] <;> iassumption
  unfold runs; rw [wp_ret]; imodintro
  iapply Hk
  unfold bodyPost Φ₁ Dat.owesAt Pipeline.owesWithin
  simp only [three]
  rw [show (dats m 0 c).owed t₀.succ = 0 from rfl]
  isplitl [HzB HzS0 HzS1 HzS2 HzR0 HzR1 HzR2]
  · isplitl [HzB]; · iexact HzB
    isplitl [HzS0 HzS1 HzS2]
    · isplitl [HzS0]; · iexact HzS0
      isplitl [HzS1] <;> iassumption
    · isplitl [HzR0]; · iexact HzR0
      isplitl [HzR1] <;> iassumption
  isplitl [HO]
  · iexists _
    isplitr
    swap; · iexact HO
    ipureintro; exact fun _ _ => Or.inl trivial
  isplitl [Hx]
  · iexists _; isplitr; · (ipureintro; rfl)
    iexact Hx
  iexists _; isplitr; · (ipureintro; rfl)
  iexact Hout

set_option maxRecDepth 4000 in
/-- The body does what the pipelined call asks of it, on every device. -/
theorem body_obligation (c : Dev nD) : BodyObligation (dats (F := F) m 0 c) (defs₀ (F := F)) 𝒱₀ () Set.univ := fun t => by
  rw [eq_t₀ t]
  rw [two, two]
  simp only [owns_whole]
  show bodyPre m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  iintro H
  iapply (sound_body m c fun _ => bodyPost m c)
  isplitl
  · iexact H
  · iintro H; iexact H

end Cert.KProof
end
-- ==== Proof.Run.lean ====
/-
# The launch

How the protocol comes about when the sixteen devices start: its rounds and rights are minted, every semaphore is put
under its invariant, the rights are dealt out to the devices that use them, and the launch's credits are counted. Then
the run of all devices: it ends, every array as the call's data say, every semaphore at zero.
-/
module

public import proofs.«01_k».proof.Proof.Body
public import proofs.«01_k».proof.Proof.Gen.KernelIdeal.Launch
public import Idealize.ShloMosaic.Lib.Pipeline.Launch
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: three to send with, three to receive with. -/
abbrev osem (j : Fin 3 ⊕ Fin 3) : SemLoc sig := csem (.inr j)
theorem osem_facts : Pipeline.OwnSemFacts cfg0.spec osem := by decide

omit [FloatOps F] in
theorem ownSems_eq (c : Dev nD) :
    (Pipeline.ownSems0 (Ix := Unit) (Name := ℕ) (U := UU) (Lvl := ℕ) (Val := Elt F) (τ := τ) osem c : sProp 𝕄)
      = iprop((bigSep Finset.univ fun k => semVal (sendCell c k) 0) ∗ bigSep Finset.univ fun k => semVal (recvCell c k) 0) := by
  unfold Pipeline.ownSems0
  rw [bigSep_univ_sum]
  rfl

omit [FloatOps F] in
theorem barrier_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A conjunction over a device's seven semaphores, by their kind. -/
theorem by_kind (Φ : Slot → sProp 𝕄) :
    bigSep Finset.univ Φ = iprop(Φ sB ∗ (bigSep Finset.univ fun k => Φ (sS k)) ∗ bigSep Finset.univ fun k => Φ (sR k)) := by
  rw [bigSep_univ_sum, bigSep_univ_sum, bigSep_univ_eq_bigSepL [()] (by decide) (by decide)]
  rfl

/-! ## Minting -/

theorem cells_inj : Function.Injective (fun cs : Dev nD × Slot => kcell cs.1 cs.2) := by
  rintro ⟨c, s⟩ ⟨c', s'⟩ h
  have h1 : c = c' := congrArg (fun g : GSem nD τ sig => g.1.1) h
  have h2 : s = s' := csem_injective (congrArg (fun g : GSem nD τ sig => g.2) h)
  rw [h1, h2]

/-- All the protocol's semaphores. -/
def allCells : Finset (GSem nD τ sig) := Finset.univ.map ⟨_, cells_inj⟩

/-- The raises a device's own semaphores expect: its barrier three, each send and each receive semaphore one. -/
abbrev Raise : Type := Fin 3 ⊕ (Fin 3 ⊕ Fin 3)
def raise : Raise → SemLoc sig × Fin 3
  | .inl k => (.reg barS, k)
  | .inr j => (csem (.inr j), 0)
theorem raise_inj : Function.Injective raise := by decide

abbrev tokenOf (cj : Dev nD × Raise) : GSem nD τ sig × ℕ × Fin 3 := (((cj.1 : Thread nD τ), (raise cj.2).1), 0, (raise cj.2).2)
theorem tokens_inj : Function.Injective tokenOf := by
  rintro ⟨c, j⟩ ⟨c', j'⟩ h
  have h1 : c = c' := congrArg (fun x : GSem nD τ sig × ℕ × Fin 3 => x.1.1.1) h
  have h2 : j = j' := raise_inj (Prod.ext (congrArg (fun x : GSem nD τ sig × ℕ × Fin 3 => x.1.2) h)
    (congrArg (fun x : GSem nD τ sig × ℕ × Fin 3 => x.2.2) h))
  rw [h1, h2]

/-- All the protocol's rights to raise a semaphore. -/
def allTokens : Finset (GSem nD τ sig × ℕ × Fin 3) := Finset.univ.map ⟨tokenOf, tokens_inj⟩

/-- The launch's ghost element: the pipeline's part and the protocol's. -/
def u₀ : UU :=
  (initOf (Pipeline.cells cfgs cellOf_inj) (Pipeline.launchToks cfgs cellOf_inj), initOf allCells allTokens)

/-- The rights to raise device `c`'s own semaphores. -/
def tokens (c : Dev nD) : sProp 𝕄 :=
  iprop((bigSep Finset.univ fun k : Fin 3 => dutyTok ER (barCell c) 0 k)
    ∗ (bigSep Finset.univ fun k : Fin 3 => dutyTok ER (sendCell c k) 0 0)
    ∗ bigSep Finset.univ fun k : Fin 3 => dutyTok ER (recvCell c k) 0 0)

/-- What is minted for device `c`: its semaphores' round states, its positions, and the rights to raise them. -/
def minted (c : Dev nD) : sProp 𝕄 :=
  iprop((bigSep Finset.univ fun s : Slot => roundState ER (sched m) (kcell c s) 0)
    ∗ ((bigSep Finset.univ fun s : Slot => atPos ER (kcell c s) 0 ∅ 0) ∗ bigSep Finset.univ fun s : Slot => reached ER (kcell c s) 0)
    ∗ tokens c)

omit [FloatOps F] in
theorem mint : BI.own (ER (initOf allCells allTokens)) ⊢ (|==> bigSep Finset.univ (minted m) : sProp 𝕄) := by
  have hc (Φ : GSem nD τ sig → sProp 𝕄) :
      bigSep allCells Φ = bigSep Finset.univ fun c : Dev nD => bigSep Finset.univ fun s : Slot => Φ (kcell c s) := by
    unfold allCells; rw [bigSep_map, bigSep_univ_prod]; rfl
  have ht : bigSep allTokens (fun x => (dutyTok ER x.1 x.2.1 x.2.2 : sProp 𝕄)) = bigSep Finset.univ fun c : Dev nD => tokens c := by
    unfold allTokens; rw [bigSep_map, bigSep_univ_prod]
    refine bigSep_congr fun c _ => ?_
    unfold tokens; rw [bigSep_univ_sum, bigSep_univ_sum]; rfl
  iintro H
  imod (Rounds.fund ER (sched m) allCells allTokens) $$ H with ⟨Hs, Hr, Ha, Ht⟩
  imodintro
  ihave Hs := (Entails.of_eq (hc fun g => roundState ER (sched m) g 0)) $$ Hs
  ihave Ha := (Entails.of_eq (hc fun g => atPos ER g 0 ∅ 0)) $$ Ha
  ihave Hr := (Entails.of_eq (hc fun g => reached ER g 0)) $$ Hr
  ihave Ht := (Entails.of_eq ht) $$ Ht
  unfold minted; simp only [bigSep_sep']
  isplitl [Hs]; · iexact Hs
  isplitl [Ha Hr]
  · isplitl [Ha] <;> iassumption
  iexact Ht

/-! ## Dealing -/

/-- The rights device `c` uses: to raise its peers' barriers and receive semaphores, and its own send semaphores. -/
def dealt (c : Dev nD) : sProp 𝕄 :=
  iprop((bigSep Finset.univ fun k : Fin 3 => dutyTok ER (barCell (peer c k)) 0 k.rev)
    ∗ (bigSep Finset.univ fun k : Fin 3 => dutyTok ER (sendCell c k) 0 0)
    ∗ bigSep Finset.univ fun k : Fin 3 => dutyTok ER (recvCell (peer c k) k.rev) 0 0)

/-- Device `c` seen from its `k`-th peer: that peer, and `c`'s place among the peer's peers. -/
def turn : Dev nD × Fin 3 ≃ Dev nD × Fin 3 where
  toFun x := (peer x.1 x.2, x.2.rev)
  invFun x := (peer x.1 x.2, x.2.rev)
  left_inv x := Prod.ext (peer_peer x.1 x.2) (Fin.rev_rev x.2)
  right_inv x := Prod.ext (peer_peer x.1 x.2) (Fin.rev_rev x.2)

omit [FloatOps F] in
/-- A family over devices and peers can be dealt out from the peers' side. -/
theorem deal (Φ : Dev nD → Fin 3 → sProp 𝕄) :
    (bigSep Finset.univ fun c : Dev nD => bigSep Finset.univ fun k : Fin 3 => Φ c k)
      = bigSep Finset.univ fun c : Dev nD => bigSep Finset.univ fun k : Fin 3 => Φ (peer c k) k.rev := by
  rw [← bigSep_univ_prod (fun x : Dev nD × Fin 3 => Φ x.1 x.2),
    ← bigSep_univ_prod (fun x : Dev nD × Fin 3 => Φ (peer x.1 x.2) x.2.rev),
    bigSep_univ_equiv turn (fun x : Dev nD × Fin 3 => Φ x.1 x.2)]
  rfl

omit [FloatOps F] in
theorem deal_tokens : (bigSep Finset.univ fun c : Dev nD => (tokens c : sProp 𝕄)) = bigSep Finset.univ fun c : Dev nD => dealt c := by
  unfold tokens dealt
  rw [bigSep_sep', bigSep_sep', bigSep_sep', bigSep_sep', deal (fun c k => dutyTok ER (barCell c) 0 k),
    deal (fun c k => dutyTok ER (recvCell c k) 0 0)]

omit [FloatOps F] in
/-- Device `c`'s semaphores go under their invariants. -/
theorem enclose (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun s : Slot => iprop(∃ κ : ℕ, cellInv ER (sched m) κ (kcell c s)))
          ∗ ((bigSep Finset.univ fun s : Slot => atPos ER (kcell c s) 0 ∅ 0) ∗ bigSep Finset.univ fun s : Slot => reached ER (kcell c s) 0)
          ∗ tokens c) := by
  have hv : iprop((bigSep Finset.univ fun s : Slot => semVal (kcell c s) 0) ∗ bigSep Finset.univ fun s : Slot => roundState ER (sched m) (kcell c s) 0)
      ⊢ (|={Set.univ}=> bigSep Finset.univ fun s : Slot => iprop(∃ κ : ℕ, cellInv ER (sched m) κ (kcell c s)) : sProp 𝕄) := by
    rw [← bigSep_sep']
    exact (bigSep_mono fun s _ => (Rounds.body_intro ER (sched m) (kcell c s)).trans inv_alloc).trans (bigSep_fupd _ _)
  rw [by_kind (fun s : Slot => semVal (kcell c s) 0)] at hv
  unfold minted
  rw [ownSems_eq, barrier_eq]
  iintro ⟨⟨HvS, HvR⟩, HvB, Hs, Hrest⟩
  imod hv $$ [HvB HvS HvR Hs] with Hi
  · isplitl [HvB HvS HvR]
    · isplitl [HvB]; · iexact HvB
      isplitl [HvS]; · iexact HvS
      iexact HvR
    · iexact Hs
  imodintro
  isplitl [Hi]; · iexact Hi
  iexact Hrest

omit [FloatOps F] in
/-- A persistent fact can be used for every member of a family. -/
theorem along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem share_out :
    (bigSep Finset.univ fun c : Dev nD => iprop((bigSep Finset.univ fun s : Slot => iprop(∃ κ : ℕ, cellInv ER (sched m) κ (kcell c s)))
          ∗ ((bigSep Finset.univ fun s : Slot => atPos ER (kcell c s) 0 ∅ 0) ∗ bigSep Finset.univ fun s : Slot => reached ER (kcell c s) 0)
          ∗ tokens c) : sProp 𝕄)
      ⊢ bigSep Finset.univ fun c => iprop(∃ K, ghost m K c) := by
  simp only [bigSep_sep']
  rw [deal_tokens, ← bigSep_univ_prod (fun cs : Dev nD × Slot => iprop(∃ κ : ℕ, cellInv ER (sched m) κ (kcell cs.1 cs.2))),
    ← bigSep_univ_prod (fun cs : Dev nD × Slot => (reached ER (kcell cs.1 cs.2) 0 : sProp 𝕄))]
  iintro ⟨HI, ⟨Ha, #HR⟩, Ht⟩
  ihave HI := (BI.bigSep_exists_pi Finset.univ (fun (cs : Dev nD × Slot) (κ : ℕ) => (cellInv ER (sched m) κ (kcell cs.1 cs.2) : sProp 𝕄))) $$ HI
  icases HI with ⟨%K, #HI⟩
  iapply (along (R := records m K)
    (Φ := fun c : Dev nD => iprop((bigSep Finset.univ fun s : Slot => atPos ER (kcell c s) 0 ∅ 0) ∗ dealt c)) fun c _ => by
      unfold ghost dealt
      rw [by_kind]
      iintro ⟨#H, Ha, Ht⟩
      iexists K
      isplitr; · iexact H
      isplitl [Ha]; · iexact Ha
      iexact Ht)
  isplitr
  · unfold records
    isplitl; · iexact HI
    iexact HR
  · rw [bigSep_sep']
    isplitl [Ha] <;> iassumption

omit [FloatOps F] in
/-- From the semaphores of all devices and what was minted to each device's part of the protocol. -/
theorem setup : (bigSep Finset.univ fun c => iprop(Pipeline.ownSems0 (Ix := Unit) (Name := ℕ) (U := UU) (Lvl := ℕ) (Val := Elt F) (τ := τ) osem c
      ∗ unscopedSems0 c ∗ minted m c) : sProp 𝕄)
    ⊢ |={Set.univ}=> bigSep Finset.univ fun c => iprop(∃ K, ghost m K c) :=
  ((bigSep_mono fun c _ => enclose m c).trans (bigSep_fupd _ _)).trans (BI.fupd_mono (share_out m))

/-! ## Counting the credits -/

theorem sum_at {f : Fin 3 → CellTallies nD τ sig Unit} (g : GSem nD τ sig) : (∑ k, f k) g () = ∑ k, f k g () := by
  rw [Fin.sum_univ_three, Fin.sum_univ_three]; rfl

theorem peer_eq_iff (c d : Dev nD) (k : Fin 3) : peer d k = c ↔ d = peer c k.rev :=
  ⟨fun h => by have := peer_peer d k; rw [h] at this; exact this.symm, fun h => by rw [h, peer_peer']⟩

/-- What the devices owe a barrier: one unit from each of the three peers. -/
theorem owed_bar (c : Dev nD) : ∑ d, O₀ d (barCell c) () = 3 := by
  have hr (d : Dev nD) (k : Fin 3) : (tallyAt (recvCell (peer d k) k.rev) () N : CellTallies nD τ sig Unit) (barCell c) () = 0 := by
    rw [tallyAt_apply, if_neg fun h => by have := congrArg Prod.snd h.1; cases this]
  have hb (d : Dev nD) (k : Fin 3) : (tallyAt (barCell (peer d k)) () 1 : CellTallies nD τ sig Unit) (barCell c) () = if d = peer c k.rev then 1 else 0 := by
    rw [tallyAt_apply]
    refine if_congr ?_ rfl rfl
    rw [← peer_eq_iff]
    exact ⟨fun h => (congrArg (fun g : GSem nD τ sig => g.1.1) h.1).symm, fun h => ⟨by rw [h], rfl⟩⟩
  have h (d : Dev nD) : O₀ d (barCell c) () = ∑ k : Fin 3, if d = peer c k.rev then 1 else 0 := by
    rw [O₀_eq, Pi.add_apply, Finsupp.add_apply, sum_at, sum_at, Finset.sum_congr rfl fun k _ => hr d k,
      Finset.sum_congr rfl fun k _ => hb d k, Finset.sum_const_zero, zero_add]
  rw [Finset.sum_congr rfl fun d _ => h d, Finset.sum_comm,
    Finset.sum_congr rfl fun k _ => (Finset.sum_ite_eq' Finset.univ (peer c k.rev) fun _ => 1).trans (if_pos (Finset.mem_univ _))]
  rfl

/-- What the devices owe the receive semaphore of `c` for its `j`-th peer: one block's worth, from that peer. -/
theorem owed_recv (c : Dev nD) (j : Fin 3) : ∑ d, O₀ d (recvCell c j) () = N := by
  have hb (d : Dev nD) (k : Fin 3) : (tallyAt (barCell (peer d k)) () 1 : CellTallies nD τ sig Unit) (recvCell c j) () = 0 := by
    rw [tallyAt_apply, if_neg fun h => by have := congrArg Prod.snd h.1; cases this]
  have hr (d : Dev nD) (k : Fin 3) : (tallyAt (recvCell (peer d k) k.rev) () N : CellTallies nD τ sig Unit) (recvCell c j) ()
      = if d = peer c k.rev then (if k = j.rev then N else 0) else 0 := by
    rw [tallyAt_apply, ← ite_and]
    refine if_congr ?_ rfl rfl
    rw [← peer_eq_iff]
    refine ⟨fun h => ⟨(congrArg (fun g : GSem nD τ sig => g.1.1) h.1).symm, ?_⟩, fun h => ⟨by rw [h.1, h.2, Fin.rev_rev], rfl⟩⟩
    have h2 : sR j = sR k.rev := csem_injective (congrArg (fun g : GSem nD τ sig => g.2) h.1)
    have h3 : j = k.rev := Sum.inr.inj (Sum.inr.inj h2)
    rw [h3, Fin.rev_rev]
  have h (d : Dev nD) : O₀ d (recvCell c j) () = ∑ k : Fin 3, if d = peer c k.rev then (if k = j.rev then N else 0) else 0 := by
    rw [O₀_eq, Pi.add_apply, Finsupp.add_apply, sum_at, sum_at, Finset.sum_congr rfl fun k _ => hr d k,
      Finset.sum_congr rfl fun k _ => hb d k, Finset.sum_const_zero, add_zero]
  rw [Finset.sum_congr rfl fun d _ => h d, Finset.sum_comm,
    Finset.sum_congr rfl fun k _ => (Finset.sum_ite_eq' Finset.univ (peer c k.rev) fun _ => _).trans (if_pos (Finset.mem_univ _)),
    Finset.sum_ite_eq' Finset.univ j.rev fun _ => N, if_pos (Finset.mem_univ _)]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same]
  exact owed_bar c

theorem launch_recv (c : Dev nD) (k : Fin 3) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same]
  exact owed_recv c k

/-- The semaphores a device holds launch credits for. -/
def waited : Option (Fin 3) → SemLoc sig
  | none => .reg barS
  | some k => .dma (recvS k)
theorem waited_inj : Function.Injective waited := by decide

omit [FloatOps F] in
theorem launch_credits (c : Dev nD) : (Pipeline.launchCred O₀ c : sProp 𝕄) ⊢ credits c := by
  have h : (credits c : sProp 𝕄) = bigSep (Finset.univ.map ⟨waited, waited_inj⟩) fun sm =>
      cred (tallyOn ((c : Thread nD τ), sm) (launchCredit (Pipeline.owing O₀) 0 ((c : Thread nD τ), sm))) := by
    rw [bigSep_map, bigSep_univ_eq_bigSepL [none, some 0, some 1, some 2] (by decide) (by decide)]
    unfold credits
    rw [three, ← launch_bar, ← launch_recv, ← launch_recv, ← launch_recv]
    rfl
  rw [h]
  exact bigSep_subset (Finset.subset_univ _)

/-! ## The launch's conditions -/

omit [FloatOps F] in
theorem share_full (c : Dev nD) (w : Fin cfg0.W) : (dats m 0 c).share w = fullShare := by unfold Dat.share; split <;> rfl

omit [FloatOps F] in
theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ iprop(∃ K, ghost m K c))
      ⊢ |={Set.univ}=> iprop(Φ₀ m c ∗ emp) := by
  iintro ⟨-, Hlev, Hcr, -, HG⟩
  ihave Hc := (launch_credits (F := F) c) $$ Hcr
  imodintro
  unfold Φ₀
  isplitl
  · isplitl [HG]; · iexact HG
    isplitl [Hc] <;> iassumption
  · iempintro

theorem enter (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨H, -⟩
  iexact H

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, barrier_eq]
  unfold Φ₁
  iintro ⟨HB, HS, HR⟩
  isplitl [HB]; · iexact HB
  isplitl
  · isplitl [HS] <;> iassumption
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds in the end. -/
def finalA (c : Dev nD) (w : Fin cfg0.W) : Buf (Elt F) ((cfg0.win w).arr.view.loc (c : Thread nD τ)) := (dats m 0 c).arrAt w cfg0.N

/-- In the final memory every array of every device is as the call's data say. -/
def Ends : PUnit × MemSt nD τ sig (Elt F) → Prop := fun r =>
  ∀ c : Dev nD, ∀ w : Fin cfg0.W, r.2.mem ((cfg0.win w).arr.view.loc (c : Thread nD τ)) = finalA m c w

/-- The launch state with memory `m` and generators `ρ`: all semaphores at zero. -/
abbrev s₀ : MemSt nD τ sig (Elt F) := ⟨m, fun _ => 0, ρ⟩

set_option maxRecDepth 8000 in
/-- On all sixteen devices, for any float values, from any memory with the semaphores at zero: every fair run of the
    program ends, and in the end every device's arrays are as the call's data say and every semaphore is at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m)
    (hdistinct := winFacts0.arr_inj)
    (O₀ := O₀) (howed₀ := fun _ => rfl) (howedN := fun _ => rfl)
    (L := L) (lv := lv) (hL := L_of_ne) (hwaits := waits m)
    (G := minted m) (G' := fun c => iprop(∃ K, ghost m K c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := setup m)
    (hA := fun _ _ => rfl) (hpf := fun _ k => k.elim0)
    (X := Φ₀ m) (Y := fun c => unscopedSems0 c) (Z := fun _ => iprop(emp))
    (hX := start_of m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it began. -/
theorem final_arg (c : Dev nD) : finalA m c (0 : Fin 2) = m ((cfg0.win (0 : Fin 2)).arr.view.loc (c : Thread nD τ)) :=
  (dats (F := F) m 0 c).arrAt_in (0 : Fin 2) rfl _

end Cert.KProof
end
-- ==== Proof.Value.lean ====
/-
# The value

The result array of every device ends holding the gathered blocks, and when every device's argument is its block of one
array, cut along z, the gathered blocks are that array.
-/
module

public import proofs.«01_k».proof.Proof.Run
public import Idealize.ShloMosaic.Lib.Layout

@[expose] public section

noncomputable section

namespace Cert.KProof

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The fetched argument is all of the argument. -/
theorem xstg_eq (c : Dev nD) : xstg m c = m ((c : Thread nD τ).loc main_arg0) := by
  have e : ∀ a : Fin 2, win0_0.index (0 : Fin 1) a * win0_0.size a = 0 := by decide +kernel
  funext x
  show m ((c : Thread nD τ).loc main_arg0) (((View.whole main_arg0).slice (win0_0.rect (0 : Fin 1))).emb x) = _
  congr 1
  funext a
  refine Fin.ext ?_
  show win0_0.index (0 : Fin 1) a * win0_0.size a + 1 * (x a).val = (x a).val
  rw [e, Nat.zero_add, Nat.one_mul]

/-- What the call writes back is the gathered blocks, read where it writes them. -/
theorem written_back (c : Dev nD) (t : Fin cfg0.N) :
    (dats m 0 c).flushed 1 t = ((cfg0.win 1).blk t).view.read (Elt F) (gath m c) := by
  rw [eq_t₀ t]
  have e : ∀ a : Fin 2, win0_1.index t₀ a * win0_1.size a = 0 := by decide +kernel
  funext x
  show gath m c x = gath m c (((View.whole main_v1).slice (win0_1.rect t₀)).emb x)
  congr 1
  funext a
  refine Fin.ext ?_
  show (x a).val = win0_1.index t₀ a * win0_1.size a + 1 * (x a).val
  rw [e, Nat.zero_add, Nat.one_mul]

/-- The write-back covers the whole result. -/
theorem covered (i : S1024x256.Idx) : ∃ t : Fin cfg0.N, (cfg0.win 1).flush t = true ∧ i ∈ ((cfg0.win 1).blk t).view.set := by
  refine ⟨t₀, flush0_1 _, ?_⟩
  show i ∈ ((View.whole main_v1).slice (win0_1.rect t₀)).set
  rw [View.set_slice_whole, Rect.mem_set_unit]
  have e : win0_1.index t₀ 0 * win0_1.size 0 = 0 ∧ win0_1.xsize (grid0.coords t₀) 0 = 1024
      ∧ win0_1.index t₀ 1 * win0_1.size 1 = 0 ∧ win0_1.xsize (grid0.coords t₀) 1 = 256 := by decide +kernel
  have h0 : (i 0 : Nat) < 1024 := (i 0).isLt
  have h1 : (i 1 : Nat) < 256 := (i 1).isLt
  intro a
  match a with
  | ⟨0, _⟩ =>
    show win0_1.index t₀ 0 * win0_1.size 0 ≤ (i 0 : Nat) ∧ (i 0 : Nat) < win0_1.index t₀ 0 * win0_1.size 0 + win0_1.xsize (grid0.coords t₀) 0
    rw [e.1, e.2.1]; omega
  | ⟨1, _⟩ =>
    show win0_1.index t₀ 1 * win0_1.size 1 ≤ (i 1 : Nat) ∧ (i 1 : Nat) < win0_1.index t₀ 1 * win0_1.size 1 + win0_1.xsize (grid0.coords t₀) 1
    rw [e.2.2.1, e.2.2.2]; omega

/-- The result array ends holding the gathered blocks. -/
theorem final_result (c : Dev nD) : finalA m c 1 = gath m c :=
  (dats m 0 c).arrAt_eq_of_cover 1 (gath m c) (fun t _ => written_back m c t) covered

/-- The run's outcome by name: the result gathered, the argument unchanged, the semaphores at zero. -/
theorem run_gathers : θ_run defs (onTc (τ := τ) (main (F := F))) (s₀ m ρ) (fun r =>
    (∀ c : Dev nD, r.2.mem ((c : Thread nD τ).loc main_v1) = gath m c
      ∧ r.2.mem ((c : Thread nD τ).loc main_arg0) = m ((c : Thread nD τ).loc main_arg0))
    ∧ r.2.sem = fun _ => 0) :=
  (θ_run defs _ _).mono (fun r h => ⟨fun c => ⟨(h.1 c 1).trans (final_result m c), (h.1 c 0).trans (final_arg m c)⟩, h.2⟩)
    (run_main m ρ)

/-- If every device holds the block of `x` that its place along z names, then what each device gathers is `x`. -/
theorem gath_whole (x : S1024x256.Idx → Elt F .bf16)
    (h : ∀ c : Dev nD, m ((c : Thread nD τ).loc main_arg0)
      = Layout.blockN ⟨2, ![256, 256]⟩ ⟨2, ![1024, 256]⟩ (Layout.meshBlock [2, 2, 4] ![[2], []] c) x) (c : Dev nD) :
    gath m c = x := by
  funext i
  unfold gath
  rw [xstg_eq, h]
  show x _ = x i
  congr 1
  have hz : ∀ d : Dev nD, ((Layout.meshBlock [2, 2, 4] ![[2], []] d : (b : Fin 2) → _) 0).val = d.val % 4 := by decide
  have hw : ∀ d : Dev nD, ((Layout.meshBlock [2, 2, 4] ![[2], []] d : (b : Fin 2) → _) 1).val = 0 := by decide
  have h0 : (i 0 : Nat) < 1024 := (i 0).isLt
  funext b
  match b with
  | ⟨0, _⟩ =>
    refine Fin.ext ?_
    show ((Layout.meshBlock [2, 2, 4] ![[2], []] (rowOwner c (i 0)) : (b : Fin 2) → _) 0).val * 256 + (i 0).val % 256 = (i 0).val
    rw [hz]
    show (4 * (c.val / 4) + (i 0).val / 256) % 4 * 256 + (i 0).val % 256 = (i 0).val
    omega
  | ⟨1, _⟩ =>
    refine Fin.ext ?_
    show ((Layout.meshBlock [2, 2, 4] ![[2], []] (rowOwner c (i 0)) : (b : Fin 2) → _) 1).val * 256 + (i 1).val = (i 1).val
    rw [hw]
    omega

end Cert.KProof
end
-- ==== Proof.Reference.lean ====
/-
# The reference's run

The gathered array is the whole array, so the reference returns its argument: a program of no operations, on one device.
-/
module

public import proofs.«01_k».proof.Proof.Gen.ReferenceIdeal
public import Idealize.ShloMosaic.Lib.StableHlo.Run
public import Idealize.ShloMosaic.Lib.Quiescent
public import Idealize.ShloMosaic.Lib.Claim

@[expose] public section

noncomputable section

namespace Cert.KProof

open Cert.ReferenceIdeal Cert.ReferenceIdeal.Gen
open Idealize.ShloMosaic Idealize.SL.Sem

variable {F : FTy → Type} [FloatOps F]

/-- The reference runs to an end from any memory; its argument, which is also its result, is unchanged, and it has no
    semaphore that could be off zero. -/
theorem reference_run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) :=
  (θ_run (defs (F := F)) (onTc (τ := τ) (main (F := F))) ⟨m, fun _ => 0, ρ⟩).mono
    (fun r h => ⟨fun c => h c main_arg0, sem_eq_zero_of_no_sems rfl r.2⟩)
    (StableHlo.run_seq (by decide) (by decide) defs main (fun _ => []) (fun _ => rfl) (fun _ => trivial) m ρ)

end Cert.KProof

end
-- ==== Proof.lean ====
/-
# The certificate

The five claims about the all-gather kernel: the kernel as compiled and the kernel read over exact values both run to an
end with their arguments unchanged and every semaphore at zero; so does the reference; reading the kernel over exact
values changed no operation; and the kernel's result on every device is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The exact kernel's program runs to an end over any floating-point arithmetic, its argument unchanged and every
    semaphore at zero. -/
theorem runs {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F)))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run (Cert.KernelIdeal.defs (F := F)) (onTc (τ := Cert.KernelIdeal.τ) (Cert.KernelIdeal.main (F := F)))
    ⟨m, fun _ => 0, g⟩).mono (fun _ h => ⟨fun c => (h.1 c).2, h.2⟩) (Cert.KProof.run_gathers (F := F) m g)

/-- The two programs' kernels have one body: label by label the two tables call the same text. -/
theorem same_bodies {F : FTy → Type} [FloatOps F] :
    Cert.KernelIdeal.defs₀ (F := F) = Cert.Kernel.defs₀ (F := F) := by
  unfold Cert.KernelIdeal.defs₀ Cert.Kernel.defs₀
  refine congrArg Defs.onTc ?_
  funext ℓ a
  match ℓ, a with
  | 0, (_, _) => rfl

/-- So the two programs have one table of bodies, with the pipeline around the kernel. -/
theorem same_defs {F : FTy → Type} [FloatOps F] :
    Cert.KernelIdeal.defs (F := F) = Cert.Kernel.defs (F := F) :=
  congrArg (Pipeline.defs (Cert.Kernel.pcfgs (F := F))) same_bodies

/-- The kernel as compiled runs to an end, its argument unchanged and every semaphore at zero: its text is the text of
    the kernel over exact values, so `runs` is its run. -/
theorem kernel_frame : Cert.quiescent_Kernel := fun m g _ => by
  have h := runs (F := Bits) m g
  rw [same_defs] at h
  exact h

/-- The kernel over exact values runs to an end, its argument unchanged and every semaphore at zero. -/
theorem exact_frame : Cert.quiescent_KernelIdeal := fun m g _ => runs (F := Ideal) m g

/-- Every device's result is the reference's: both are the whole array, of which each device was given its block. -/
theorem value : Cert.algebraic_KernelIdeal_ReferenceIdeal := fun m g m' g' _ hx =>
  ⟨m' (((0 : Dev Cert.ReferenceIdeal.nD).tc : Thread Cert.ReferenceIdeal.nD Cert.ReferenceIdeal.τ).loc
      Cert.ReferenceIdeal.main_arg0),
    (θ_run (Cert.KernelIdeal.defs (F := Ideal)) (onTc (τ := Cert.KernelIdeal.τ) (Cert.KernelIdeal.main (F := Ideal)))
      ⟨m, fun _ => 0, g⟩).mono
      (fun _ h c => ⟨(h.1 c).1.trans (Cert.KProof.gath_whole m _ hx c), (h.1 c).2⟩) (Cert.KProof.run_gathers (F := Ideal) m g),
    (θ_run (Cert.ReferenceIdeal.defs (F := Ideal)) (onTc (τ := Cert.ReferenceIdeal.τ) (Cert.ReferenceIdeal.main (F := Ideal)))
      ⟨m', fun _ => 0, g'⟩).mono (fun _ h => ⟨h.1 0, h.1 0⟩) (Cert.KProof.reference_run (F := Ideal) m' g')⟩

/-- The certificate: the five claims. -/
theorem claim : Cert.Claim :=
  ⟨Cert.Kernel.Gen.facts, Cert.KernelIdeal.Gen.facts, Cert.ReferenceIdeal.Gen.facts,
    kernel_frame, exact_frame, fun m g _ => Cert.KProof.reference_run m g, trivial, value⟩

end Cert.Proof

end
